-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_or_masked [hPre_finite_or_masked : Cert.Pre_finite_or_masked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_or_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_or_masked [hPre_finite_or_masked : Cert.Pre_finite_or_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_or_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_or_masked [hKernelIdeal : Cert.KernelIdeal.Facts] [hPre_finite_or_masked : Cert.Pre_finite_or_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_or_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_or_masked [hReferenceIdeal : Cert.ReferenceIdeal.Facts] [hPre_finite_or_masked : Cert.Pre_finite_or_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_or_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_or_masked [hKernelIdeal : Cert.KernelIdeal.Facts] [hReferenceIdeal : Cert.ReferenceIdeal.Facts] [hPre_finite_or_masked : Cert.Pre_finite_or_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_or_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_or_masked : Cert.Pre_finite_or_masked.Facts),
    quiescent_Kernel (hKernel := hKernel)
    ∧ quiescent_KernelIdeal (hKernelIdeal := hKernelIdeal)
    ∧ quiescent_KernelIdeal_pre_finite_or_masked (hKernelIdeal := hKernelIdeal) (hPre_finite_or_masked := hPre_finite_or_masked)
    ∧ quiescent_ReferenceIdeal (hReferenceIdeal := hReferenceIdeal)
    ∧ quiescent_ReferenceIdeal_pre_finite_or_masked (hReferenceIdeal := hReferenceIdeal) (hPre_finite_or_masked := hPre_finite_or_masked)
    ∧ preserves_Kernel_KernelIdeal
    ∧ algebraic_KernelIdeal_ReferenceIdeal_pre_finite_or_masked (hKernelIdeal := hKernelIdeal) (hReferenceIdeal := hReferenceIdeal) (hPre_finite_or_masked := hPre_finite_or_masked)
-- ==== Pre_finite_or_masked.lean ====
abbrev S4096x1024 : Shape := ⟨2, ![4096, 1024]⟩
abbrev S8x1024x1024 : Shape := ⟨3, ![8, 1024, 1024]⟩
abbrev S8x1024 : Shape := ⟨2, ![8, 1024]⟩
abbrev S8 : Shape := ⟨1, ![8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_
  reducesTo_S8_S_d0 : S8.ReducesTo [0] S_

variable [Facts]

def fn_part1 {F : FTy → Type} [FloatOps F] (main_v13 : IVec S_ 1) (main_v15 : FVec F S_ .f32) (main_cst_5 : FVec F S_ .f32) : IVec S_ 1 :=
  let main_v16 : IVec S_ 1 := cmpf .olt main_v15 main_cst_5
  let main_v17 : IVec S_ 1 := andi main_v13 main_v16
  main_v17

def fn {F : FTy → Type} [FloatOps F] (main_arg0 : FVec F S4096x1024 .f32) (main_arg1 : FVec F S8x1024x1024 .f32) (main_arg2 : FVec F S8x1024 .f32) (main_arg3 : FVec F S8x1024 .f32) (main_arg4 : FVec F S8 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_cst_4 : FVec F S_ .f32 := constant S_ .f32 0xFF800000#32
  let main_v14 : FVec F S_ .f32 := (fun x v => Host.reduce FloatOps.maximumf x v reducesTo_S8_S_d0 h_S_) main_arg4 main_cst_4
  let main_v15 : FVec F S_ .f32 := Host.absf main_v14
  let main_cst_5 : FVec F S_ .f32 := constant S_ .f32 0x7F800000#32
  fn_part1 (F := F) main_v13 main_v15 main_cst_5
-- ==== Kernel.lean ====
abbrev S4096x1024 : Shape := ⟨2, ![4096, 1024]⟩
abbrev S8x1024x1024 : Shape := ⟨3, ![8, 1024, 1024]⟩
abbrev S8x1024 : Shape := ⟨2, ![8, 1024]⟩
abbrev S8 : Shape := ⟨1, ![8]⟩
abbrev S1x8 : Shape := ⟨2, ![1, 8]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S512x8 : Shape := ⟨2, ![512, 8]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8x1024, .f32⟩
  | .hbm, ⟨3, _⟩ => ⟨S8x1024, .f32⟩
  | .hbm, ⟨4, _⟩ => ⟨S8, .f32⟩
  | .hbm, ⟨5, _⟩ => ⟨S1x8, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x8, .f32⟩
  | .local _ .vmem, ⟨4, _⟩ => ⟨S8x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | .local _ .vmem, ⟨10, _⟩ => ⟨S1x8, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def k0_cond3 (i : grid0.Coords) : BitVec 1 :=
  let arg0 : BitVec 32 := BitVec.ofNat 32 (i 0).val
  let c8_i32_0 : BitVec 32 := 8#32
  let v3 : BitVec 1 := Scalar.cmpi .sge arg0 c8_i32_0
  let c16_i32 : BitVec 32 := 16#32
  let v4 : BitVec 1 := Scalar.cmpi .slt arg0 c16_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c8_i32_4 : BitVec 32 := 8#32
  let v11 : BitVec 32 := Scalar.subi arg0 c8_i32_4
  let v16 : Index := Scalar.indexCast v11
  let c0_8 : Index := 0#32
  ![v16.toNat, 0]
def k0_cond5 (i : grid0.Coords) : BitVec 1 :=
  let arg0 : BitVec 32 := BitVec.ofNat 32 (i 0).val
  let c16_i32_2 : BitVec 32 := 16#32
  let v8 : BitVec 1 := Scalar.cmpi .sge arg0 c16_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x1024 : Shape := ⟨2, ![4096, 1024]⟩
abbrev S8x1024x1024 : Shape := ⟨3, ![8, 1024, 1024]⟩
abbrev S8x1024 : Shape := ⟨2, ![8, 1024]⟩
abbrev S8 : Shape := ⟨1, ![8]⟩
abbrev S1024x8 : Shape := ⟨2, ![1024, 8]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S4096x8x1024 : Shape := ⟨3, ![4096, 8, 1024]⟩
abbrev S1x8x1024 : Shape := ⟨3, ![1, 8, 1024]⟩
abbrev S1024 : Shape := ⟨1, ![1024]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8x1024, .f32⟩
  | .hbm, ⟨3, _⟩ => ⟨S8x1024, .f32⟩
  | .hbm, ⟨4, _⟩ => ⟨S8, .f32⟩
  | .hbm, ⟨5, _⟩ => ⟨S1024x8, .f32⟩
  | .hbm, ⟨6, _⟩ => ⟨S4096x8, .f32⟩
  | .hbm, ⟨7, _⟩ => ⟨S1x8, .f32⟩
  | .hbm, ⟨8, _⟩ => ⟨S4096x8, .f32⟩
  | .hbm, ⟨9, _⟩ => ⟨S4096x8, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x8, .f32⟩
  | .hbm, ⟨23, _⟩ => ⟨S4096x8, .f32⟩
  | .hbm, ⟨24, _⟩ => ⟨S4096x8x1024, .f32⟩
  | .hbm, ⟨25, _⟩ => ⟨S1x8x1024, .f32⟩
  | .hbm, ⟨26, _⟩ => ⟨S4096x8x1024, .f32⟩
  | .hbm, ⟨27, _⟩ => ⟨S4096x8x1024, .f32⟩
  | .hbm, ⟨28, _⟩ => ⟨S1024, .f32⟩
  | .hbm, ⟨29, _⟩ => ⟨S_, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.KernelIdeal.Body.lean ====
/- The body of the fused kernel at one grid point, by the five kinds of point: what each buffer holds afterwards, as a
   named value of what the buffers held before. Hand-written. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The conditions of the body's five conditionals, over the grid -/

/-- The point sums a block of tokens. -/
abbrev isSum (i : grid0.Coords) : Prop :=
  (Scalar.cmpi .ne (Scalar.extui (Scalar.cmpi .slt (BitVec.ofNat 32 (i 0).val) 8#32)) 0#32) = 1#1
/-- The point is the first. -/
abbrev isFirst (i : grid0.Coords) : Prop :=
  (Scalar.cmpi .ne (Scalar.extui (Scalar.cmpi .eq (BitVec.ofNat 32 (i 0).val) 0#32)) 0#32) = 1#1
/-- The point contracts one expert's matrix. -/
abbrev isContract (i : grid0.Coords) : Prop := k0_cond3 i = 1#1
/-- The point contracts the first expert's matrix. -/
abbrev isExpert0 (i : grid0.Coords) : Prop :=
  (Scalar.cmpi .ne (Scalar.extui (Scalar.cmpi .eq (Scalar.subi (BitVec.ofNat 32 (i 0).val) 8#32) 0#32)) 0#32) = 1#1
/-- The point writes a block of the result. -/
abbrev isWrite (i : grid0.Coords) : Prop := k0_cond5 i = 1#1

theorem isSum_iff : ∀ t : Fin grid0.N, isSum (grid0.coords t) ↔ t.val < 8 := by decide +kernel
theorem isFirst_iff : ∀ t : Fin grid0.N, isFirst (grid0.coords t) ↔ t.val = 0 := by decide +kernel
theorem isContract_iff : ∀ t : Fin grid0.N, isContract (grid0.coords t) ↔ 8 ≤ t.val ∧ t.val < 16 := by decide +kernel
theorem isExpert0_iff : ∀ t : Fin grid0.N, isExpert0 (grid0.coords t) ↔ t.val = 8 := by decide +kernel
theorem isWrite_iff : ∀ t : Fin grid0.N, isWrite (grid0.coords t) ↔ 16 ≤ t.val := by decide +kernel

/-! ## One run of the body -/

theorem zero2 : (![0, 0] : Fin 2 → ℕ) = fun _ => 0 := by funext a; fin_cases a <;> rfl
theorem zero3 : (![0, 0, 0] : Fin 3 → ℕ) = fun _ => 0 := by funext a; fin_cases a <;> rfl

/-- Owning a whole buffer through a memref at contents `X` is holding its elements at the raw contents that read `X`. -/
theorem owns_pts (c : Dev nD) {sp : Space} {S : Shape} {e : EltTy} (a : Memref sig .tc sp S e) (h : a.IsWhole) (X : S.Idx → Elt F e) :
    (owns (c : Thread nD τ) a fullShare X : sProp 𝕄) = (a.view.loc (c : Thread nD τ) ↦[a.view.set]{fullShare} h.unread X) := by
  unfold owns
  have e₁ : iprop(∃ f, ⌜a.view.read (Elt F) f = X⌝ ∗ (a.view.loc (c : Thread nD τ) ↦[a.view.set]{fullShare} f))
      ⊢ (a.view.loc (c : Thread nD τ) ↦[a.view.set]{fullShare} h.unread X : sProp 𝕄) := by
    iintro ⟨%f, %hf, H⟩
    obtain rfl := h.eq_unread hf
    iexact H
  have e₂ : (a.view.loc (c : Thread nD τ) ↦[a.view.set]{fullShare} h.unread X : sProp 𝕄)
      ⊢ iprop(∃ f, ⌜a.view.read (Elt F) f = X⌝ ∗ (a.view.loc (c : Thread nD τ) ↦[a.view.set]{fullShare} f)) := by
    iintro H
    iexists _; isplitr; swap; · iexact H
    ipureintro; exact h.read_unread X
  exact Entails.antisymm e₁ e₂

/-- A store over the whole shape leaves its payload, whatever was stored before it. -/
theorem stored {sp : Space} {S : Shape} {e : EltTy} (a : Memref sig .tc sp S e) (h : a.IsWhole) (f : a.view.ty.Contents (Elt F))
    {off : Fin S.rank → ℕ} (h0 : off = fun _ => 0) (inb : ∀ k, off k + S.size k ≤ S.size k) (w : S.Idx → Elt F e)
    (L : List (View.Piece (Elt F) S e)) :
    a.view.writes (Elt F) f (⟨Rect.unit off S.size inb, w⟩ :: L) = h.unread w :=
  h.eq_unread ((View.read_writes_eq_canon _ _ _ fun y => ⟨_, List.mem_cons_self .., View.mem_set_unit_zero h0 inb y⟩).trans
    (View.canon_cons_unit_zero h0 inb w L))

/-- A load over the whole shape reads the contents. -/
theorem loaded {sp : Space} {S : Shape} {e : EltTy} (a : Memref sig .tc sp S e) (h : a.IsWhole) (X : S.Idx → Elt F e)
    {off : Fin S.rank → ℕ} (h0 : off = fun _ => 0) (inb : ∀ k, off k + S.size k ≤ S.size k) :
    View.readAt (Elt F) a.view (Rect.unit off S.size inb).toLoadRect (h.unread X) = X := by
  rw [View.readAt_eq_ld, h.read_unread, View.ld_unit_zero h0]

section Run

variable (c : Dev nD) (i : grid0.Coords)
  (a1 : Memref sig .tc .vmem S512x1024 .f32) (h1 : a1.IsWhole) (a2 : Memref sig .tc .vmem S8x1024 .f32) (h2 : a2.IsWhole)
  (a3 : Memref sig .tc .vmem S1x8 .f32) (h3 : a3.IsWhole) (a4 : Memref sig .tc .vmem S8x1024 .f32) (h4 : a4.IsWhole)
  (a5 : Memref sig .tc .vmem S1x1024x1024 .f32) (h5 : a5.IsWhole)
  (a6 : Memref sig .tc .vmem S1024x1024 .f32) (h6 : a6.IsWhole) (a7 : Memref sig .tc .vmem S8x1024 .f32) (h7 : a7.IsWhole)
  (a8 : Memref sig .tc .vmem S1x8 .f32) (h8 : a8.IsWhole) (a9 : Memref sig .tc .vmem S1x1024 .f32) (h9 : a9.IsWhole)
  (x : Vec F S512x1024 .f32) (gw : Vec F S8x1024 .f32) (gb : Vec F S1x8 .f32) (eb : Vec F S8x1024 .f32)
  (ew : Vec F S1x1024x1024 .f32)

/-- The five operands at their contents, and the result's block and the three scratch buffers at `o`, `v`, `s`, `t`. -/
def held (o : Vec F S1024x1024 .f32) (v : Vec F S8x1024 .f32) (s : Vec F S1x8 .f32) (t : Vec F S1x1024 .f32) : sProp 𝕄 :=
  iprop(owns (c : Thread nD τ) a1 fullShare x ∗ owns (c : Thread nD τ) a2 fullShare gw ∗ owns (c : Thread nD τ) a3 fullShare gb
    ∗ owns (c : Thread nD τ) a4 fullShare eb ∗ owns (c : Thread nD τ) a5 fullShare ew ∗ owns (c : Thread nD τ) a6 fullShare o
    ∗ owns (c : Thread nD τ) a7 fullShare v ∗ owns (c : Thread nD τ) a8 fullShare s ∗ owns (c : Thread nD τ) a9 fullShare t)

/-- Row `i - 8` of the weighted sums, which the contraction at point `i` reads. -/
def row (v : Vec F S8x1024 .f32) (hc : isContract i) : Vec F S1x1024 .f32 :=
  View.ld v (Rect.unit (s := S8x1024) (k0_off1 i) S1x1024.size (k0_off1_inb i hc))

/-- A load of one row of the weighted sums reads that row. -/
theorem loadedRow (a : Memref sig .tc .vmem S8x1024 .f32) (h : a.IsWhole) (v : Vec F S8x1024 .f32) (hc : isContract i) :
    View.readAt (Elt F) a.view (Rect.unit (s := S8x1024) (k0_off1 i) S1x1024.size (k0_off1_inb i hc)).toLoadRect (h.unread v)
      = row i v hc := by
  rw [View.readAt_eq_ld, h.read_unread]; rfl

/-- `held` over raw contents. -/
theorem held_eq (o : Vec F S1024x1024 .f32) (v : Vec F S8x1024 .f32) (s : Vec F S1x8 .f32) (t : Vec F S1x1024 .f32) :
    (held c a1 a2 a3 a4 a5 a6 a7 a8 a9 x gw gb eb ew o v s t : sProp 𝕄)
      = iprop((a1.view.loc (c : Thread nD τ) ↦[a1.view.set]{fullShare} h1.unread x)
        ∗ (a2.view.loc (c : Thread nD τ) ↦[a2.view.set]{fullShare} h2.unread gw)
        ∗ (a3.view.loc (c : Thread nD τ) ↦[a3.view.set]{fullShare} h3.unread gb)
        ∗ (a4.view.loc (c : Thread nD τ) ↦[a4.view.set]{fullShare} h4.unread eb)
        ∗ (a5.view.loc (c : Thread nD τ) ↦[a5.view.set]{fullShare} h5.unread ew)
        ∗ (a6.view.loc (c : Thread nD τ) ↦[a6.view.set]{fullShare} h6.unread o)
        ∗ (a7.view.loc (c : Thread nD τ) ↦[a7.view.set]{fullShare} h7.unread v)
        ∗ (a8.view.loc (c : Thread nD τ) ↦[a8.view.set]{fullShare} h8.unread s)
        ∗ (a9.view.loc (c : Thread nD τ) ↦[a9.view.set]{fullShare} h9.unread t)) := by
  unfold held
  rw [owns_pts c a1 h1, owns_pts c a2 h2, owns_pts c a3 h3, owns_pts c a4 h4, owns_pts c a5 h5, owns_pts c a6 h6, owns_pts c a7 h7,
    owns_pts c a8 h8, owns_pts c a9 h9]

set_option maxHeartbeats 4000000 in
/-- The first point: both sums start at zero and take the first block. -/
theorem run_first (hs : isSum i) (hf : isFirst i) (hc : ¬isContract i) (hw : ¬isWrite i)
    (o : Vec F S1024x1024 .f32) (v : Vec F S8x1024 .f32) (s : Vec F S1x8 .f32) (t : Vec F S1x1024 .f32) (E : Set ℕ) (K : PUnit → sProp 𝕄) :
    iprop(held c a1 a2 a3 a4 a5 a6 a7 a8 a9 x gw gb eb ew o v s t
      ∗ (held c a1 a2 a3 a4 a5 a6 a7 a8 a9 x gw gb eb ew o (k0_pay4 x gw gb k0_pay2) (k0_pay5 x gw gb k0_pay3) t -∗ K ⟨⟩))
    ⊢ wp frame (wpE (defs₀ (F := F)) Variants.none c none) E (cc0__fused_body i a1 h1 a2 h2 a3 h3 a4 h4 a5 h5 a6 h6 a7 h7 a8 h8 a9 h9) K := by
  simp only [cc0__fused_body_eq_skeleton]; unfold cc0__fused_body_skel
  rw [held_eq c a1 h1 a2 h2 a3 h3 a4 h4 a5 h5 a6 h6 a7 h7 a8 h8 a9 h9, held_eq c a1 h1 a2 h2 a3 h3 a4 h4 a5 h5 a6 h6 a7 h7 a8 h8 a9 h9]
  iintro ⟨⟨H1, H2, H3, H4, H5, H6, H7, H8, H9⟩, Hk⟩
  sl_exec (disch := first | sl_exact hs | sl_exact hf | sl_exact hc | sl_exact hw)
  sl_step
  unfold run_first.sl.v30 run_first.sl.v36 run_first.sl.H7_1 run_first.sl.H8_1
  simp only [stored a7 h7 _ zero2, stored a8 h8 _ zero2, loaded a1 h1 _ zero2, loaded a2 h2 _ zero2, loaded a3 h3 _ zero2,
    View.readCov_unit_zero a7.view zero2,
    View.readCov_unit_zero a8.view zero2]
  iapply Hk
  iframe

set_option maxHeartbeats 4000000 in
/-- Another summing point: both sums take one more block. -/
theorem run_sum (hs : isSum i) (hf : ¬isFirst i) (hc : ¬isContract i) (hw : ¬isWrite i)
    (o : Vec F S1024x1024 .f32) (v : Vec F S8x1024 .f32) (s : Vec F S1x8 .f32) (t : Vec F S1x1024 .f32) (E : Set ℕ) (K : PUnit → sProp 𝕄) :
    iprop(held c a1 a2 a3 a4 a5 a6 a7 a8 a9 x gw gb eb ew o v s t
      ∗ (held c a1 a2 a3 a4 a5 a6 a7 a8 a9 x gw gb eb ew o (k0_pay4 x gw gb v) (k0_pay5 x gw gb s) t -∗ K ⟨⟩))
    ⊢ wp frame (wpE (defs₀ (F := F)) Variants.none c none) E (cc0__fused_body i a1 h1 a2 h2 a3 h3 a4 h4 a5 h5 a6 h6 a7 h7 a8 h8 a9 h9) K := by
  simp only [cc0__fused_body_eq_skeleton]; unfold cc0__fused_body_skel
  rw [held_eq c a1 h1 a2 h2 a3 h3 a4 h4 a5 h5 a6 h6 a7 h7 a8 h8 a9 h9, held_eq c a1 h1 a2 h2 a3 h3 a4 h4 a5 h5 a6 h6 a7 h7 a8 h8 a9 h9]
  iintro ⟨⟨H1, H2, H3, H4, H5, H6, H7, H8, H9⟩, Hk⟩
  sl_exec (disch := first | sl_exact hs | sl_exact hf | sl_exact hc | sl_exact hw)
  sl_step
  simp only [stored a7 h7 _ zero2, stored a8 h8 _ zero2, loaded a1 h1 _ zero2, loaded a2 h2 _ zero2, loaded a3 h3 _ zero2,
    loaded a7 h7 _ zero2, loaded a8 h8 _ zero2]
  iapply Hk
  iframe

set_option maxHeartbeats 4000000 in
/-- The first contraction: the total starts at the biases' part and takes the first expert's. -/
theorem run_expert0 (hs : ¬isSum i) (hc : isContract i) (he : isExpert0 i) (hw : ¬isWrite i)
    (o : Vec F S1024x1024 .f32) (v : Vec F S8x1024 .f32) (s : Vec F S1x8 .f32) (t : Vec F S1x1024 .f32) (E : Set ℕ) (K : PUnit → sProp 𝕄) :
    iprop(held c a1 a2 a3 a4 a5 a6 a7 a8 a9 x gw gb eb ew o v s t
      ∗ (held c a1 a2 a3 a4 a5 a6 a7 a8 a9 x gw gb eb ew o v s (k0_pay7 (k0_pay6 s eb) (row i v hc) ew) -∗ K ⟨⟩))
    ⊢ wp frame (wpE (defs₀ (F := F)) Variants.none c none) E (cc0__fused_body i a1 h1 a2 h2 a3 h3 a4 h4 a5 h5 a6 h6 a7 h7 a8 h8 a9 h9) K := by
  simp only [cc0__fused_body_eq_skeleton]; unfold cc0__fused_body_skel
  rw [held_eq c a1 h1 a2 h2 a3 h3 a4 h4 a5 h5 a6 h6 a7 h7 a8 h8 a9 h9, held_eq c a1 h1 a2 h2 a3 h3 a4 h4 a5 h5 a6 h6 a7 h7 a8 h8 a9 h9]
  iintro ⟨⟨H1, H2, H3, H4, H5, H6, H7, H8, H9⟩, Hk⟩
  sl_exec (disch := first | sl_exact hs | sl_exact hc | sl_exact he | sl_exact hw)
  sl_step
  unfold run_expert0.sl.v15 run_expert0.sl.H9_1
  rw [loadedRow i a7 h7 v hc]
  simp only [stored a9 h9 _ zero2, loaded a4 h4 _ zero2, loaded a5 h5 _ zero3, loaded a8 h8 _ zero2,
    View.readCov_unit_zero a9.view zero2]
  iapply Hk
  iframe

set_option maxHeartbeats 4000000 in
/-- Another contraction: the total takes one more expert's part. -/
theorem run_contract (hs : ¬isSum i) (hc : isContract i) (he : ¬isExpert0 i) (hw : ¬isWrite i)
    (o : Vec F S1024x1024 .f32) (v : Vec F S8x1024 .f32) (s : Vec F S1x8 .f32) (t : Vec F S1x1024 .f32) (E : Set ℕ) (K : PUnit → sProp 𝕄) :
    iprop(held c a1 a2 a3 a4 a5 a6 a7 a8 a9 x gw gb eb ew o v s t
      ∗ (held c a1 a2 a3 a4 a5 a6 a7 a8 a9 x gw gb eb ew o v s (k0_pay7 t (row i v hc) ew) -∗ K ⟨⟩))
    ⊢ wp frame (wpE (defs₀ (F := F)) Variants.none c none) E (cc0__fused_body i a1 h1 a2 h2 a3 h3 a4 h4 a5 h5 a6 h6 a7 h7 a8 h8 a9 h9) K := by
  simp only [cc0__fused_body_eq_skeleton]; unfold cc0__fused_body_skel
  rw [held_eq c a1 h1 a2 h2 a3 h3 a4 h4 a5 h5 a6 h6 a7 h7 a8 h8 a9 h9, held_eq c a1 h1 a2 h2 a3 h3 a4 h4 a5 h5 a6 h6 a7 h7 a8 h8 a9 h9]
  iintro ⟨⟨H1, H2, H3, H4, H5, H6, H7, H8, H9⟩, Hk⟩
  sl_exec (disch := first | sl_exact hs | sl_exact hc | sl_exact he | sl_exact hw)
  sl_step
  rw [loadedRow i a7 h7 v hc]
  simp only [stored a9 h9 _ zero2, loaded a5 h5 _ zero3, loaded a9 h9 _ zero2]
  iapply Hk
  iframe

set_option maxHeartbeats 4000000 in
/-- A writing point: the result's block is the total in every row. -/
theorem run_write (hs : ¬isSum i) (hc : ¬isContract i) (hw : isWrite i)
    (o : Vec F S1024x1024 .f32) (v : Vec F S8x1024 .f32) (s : Vec F S1x8 .f32) (t : Vec F S1x1024 .f32) (E : Set ℕ) (K : PUnit → sProp 𝕄) :
    iprop(held c a1 a2 a3 a4 a5 a6 a7 a8 a9 x gw gb eb ew o v s t
      ∗ (held c a1 a2 a3 a4 a5 a6 a7 a8 a9 x gw gb eb ew (k0_pay8 t) v s t -∗ K ⟨⟩))
    ⊢ wp frame (wpE (defs₀ (F := F)) Variants.none c none) E (cc0__fused_body i a1 h1 a2 h2 a3 h3 a4 h4 a5 h5 a6 h6 a7 h7 a8 h8 a9 h9) K := by
  simp only [cc0__fused_body_eq_skeleton]; unfold cc0__fused_body_skel
  rw [held_eq c a1 h1 a2 h2 a3 h3 a4 h4 a5 h5 a6 h6 a7 h7 a8 h8 a9 h9, held_eq c a1 h1 a2 h2 a3 h3 a4 h4 a5 h5 a6 h6 a7 h7 a8 h8 a9 h9]
  iintro ⟨⟨H1, H2, H3, H4, H5, H6, H7, H8, H9⟩, Hk⟩
  sl_exec (disch := first | sl_exact hs | sl_exact hc | sl_exact hw)
  sl_step
  simp only [stored a6 h6 _ zero2, loaded a9 h9 _ zero2]
  iapply Hk
  iframe

end Run

end Cert.KernelIdeal.Hand

end
-- ==== Proof.KernelIdeal.Run.lean ====
/- The fused kernel's launch: what the three scratch buffers hold between grid points, and the frame. Hand-written. -/
module

public import proofs.«01_k».proof.Proof.KernelIdeal.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What the scratch buffers hold -/

/-- The grid point numbered `k` (below 20). -/
def pt (k : ℕ) : Fin cfg0.N := ⟨k % 20, by show _ < grid0.N; rw [N_0]; omega⟩

theorem pt_val (t : Fin cfg0.N) : pt t.val = t :=
  Fin.ext (Nat.mod_eq_of_lt (lt_of_lt_of_eq t.isLt (show cfg0.N = 20 from N_0)))

/-- The weighted sums of the tokens after `k` blocks: row `e` sums the tokens by expert `e`'s weights. -/
def vAcc : ℕ → Vec F S8x1024 .f32
  | 0 => k0_pay2
  | k + 1 => k0_pay4 (iblk m c 0 (pt k)) (iblk m c 1 (pt k)) (iblk m c 2 (pt k)) (vAcc k)

/-- The sums of the weights after `k` blocks. -/
def sAcc : ℕ → Vec F S1x8 .f32
  | 0 => k0_pay3
  | k + 1 => k0_pay5 (iblk m c 0 (pt k)) (iblk m c 1 (pt k)) (iblk m c 2 (pt k)) (sAcc k)

/-- The total after `k` experts. -/
def tAcc : ℕ → Vec F S1x1024 .f32
  | 0 => k0_pay6 (sAcc m c 8) (iblk m c 3 (pt 8))
  | k + 1 => if h : isContract (grid0.coords (pt (8 + k)))
      then k0_pay7 (tAcc k) (row (grid0.coords (pt (8 + k))) (vAcc m c 8) h) (iblk m c 4 (pt (8 + k)))
      else tAcc k

/-- What is known of the scratch contents before position `n`: the sums from the second point on, the total from the
    tenth on. -/
def Known (n : ℕ) (v : Vec F S8x1024 .f32) (s : Vec F S1x8 .f32) (t : Vec F S1x1024 .f32) : Prop :=
  (0 < n → v = vAcc m c (min n 8) ∧ s = sAcc m c (min n 8)) ∧ (8 < n → t = tAcc m c (min n 16 - 8))

/-- The three scratch buffers, and the generator register at some state. -/
abbrev scM0 : Memref sig .tc .vmem S8x1024 .f32 := Memref.whole cc0_scratch0
abbrev scM1 : Memref sig .tc .vmem S1x8 .f32 := Memref.whole cc0_scratch1
abbrev scM2 : Memref sig .tc .vmem S1x1024 .f32 := Memref.whole cc0_scratch2

/-- The invariant before position `n`. -/
def PhiS (n : ℕ) : sProp 𝕄 :=
  iprop((∃ v s t, ⌜Known m c n v s t⌝ ∗ owns (c : Thread nD τ) scM0 fullShare v ∗ owns (c : Thread nD τ) scM1 fullShare s
    ∗ owns (c : Thread nD τ) scM2 fullShare t) ∗ (∃ r, prngReg c r))

/-- The launch's own invariant over the scratch buffers as memrefs. -/
theorem PhiA_eq :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The proof data: every operand's block stays in place; the result's block is the total in every row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay8 (tAcc m c 8)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (t : Fin cfg0.N) : (dats m 0 c).Φ t.castSucc = PhiS m c t.val := by
  dsimp only [dats]; rfl

theorem Phi_succ (t : Fin cfg0.N) : (dats m 0 c).Φ t.succ = PhiS m c (t.val + 1) := by
  dsimp only [dats]; rfl

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = k0_pay8 (tAcc m c 8) := by dsimp only [dats]

/-! ## The body at a generic point -/

/-- The body at point `t`, from scratch contents as known before it to contents as known after it; the result's block
    is left alone before point 16 and is the total in every row from there on. -/
theorem step (t : Fin cfg0.N) (o : Vec F S1024x1024 .f32) (v : Vec F S8x1024 .f32) (s : Vec F S1x8 .f32) (tt : Vec F S1x1024 .f32)
    (hk : Known m c t.val v s tt) :
    ∃ o' v' s' t', Known m c (t.val + 1) v' s' t' ∧ (t.val < 16 → o' = o) ∧ (16 ≤ t.val → o' = k0_pay8 (tAcc m c 8)) ∧
      ∀ (E : Set ℕ) (K : PUnit → sProp 𝕄),
      iprop(held c (st0_0 t) (st0_1 t) (st0_2 t) (st0_3 t) (st0_4 t) (st0_5 t) scM0 scM1 scM2
          (iblk m c 0 t) (iblk m c 1 t) (iblk m c 2 t) (iblk m c 3 t) (iblk m c 4 t) o v s tt
        ∗ (held c (st0_0 t) (st0_1 t) (st0_2 t) (st0_3 t) (st0_4 t) (st0_5 t) scM0 scM1 scM2
          (iblk m c 0 t) (iblk m c 1 t) (iblk m c 2 t) (iblk m c 3 t) (iblk m c 4 t) o' v' s' t' -∗ K ⟨⟩))
      ⊢ wp frame (wpE (defs₀ (F := F)) Variants.none c none) E (bodyAt0 t) K := by
  have hN : t.val < 20 := lt_of_lt_of_eq t.isLt (show cfg0.N = 20 from N_0)
  have ept : ∀ k, k = t.val → pt k = t := fun k e => by subst e; exact pt_val t
  have hS := isSum_iff t; have hF := isFirst_iff t; have hC := isContract_iff t; have hE := isExpert0_iff t; have hW := isWrite_iff t
  by_cases h8 : t.val < 8
  · have hc : ¬isContract (grid0.coords t) := fun h => by have := hC.1 h; omega
    have hw : ¬isWrite (grid0.coords t) := fun h => by have := hW.1 h; omega
    by_cases h0 : t.val = 0
    · refine ⟨o, _, _, tt, ⟨fun _ => ?_, fun h => by omega⟩, fun _ => rfl, fun h => by omega, fun E K =>
        run_first c (grid0.coords t) _ _ _ _ _ _ _ _ _ _ _ _ _ _ _ _ _ _ _ _ _ _ _ (hS.2 h8) (hF.2 h0) hc hw o v s tt E K⟩
      rw [show min (t.val + 1) 8 = 0 + 1 by omega, vAcc, sAcc, ept 0 h0.symm]
      exact ⟨rfl, rfl⟩
    · refine ⟨o, _, _, tt, ⟨fun _ => ?_, fun h => by omega⟩, fun _ => rfl, fun h => by omega, fun E K =>
        run_sum c (grid0.coords t) _ _ _ _ _ _ _ _ _ _ _ _ _ _ _ _ _ _ _ _ _ _ _ (hS.2 h8) (fun h => h0 (hF.1 h)) hc hw o v s tt E K⟩
      obtain ⟨hv, hs⟩ := hk.1 (by omega)
      rw [show min t.val 8 = t.val by omega] at hv hs
      rw [show min (t.val + 1) 8 = t.val + 1 by omega, vAcc, sAcc, pt_val, hv, hs]
      exact ⟨rfl, rfl⟩
  · have hs8 : ¬isSum (grid0.coords t) := fun h => h8 (hS.1 h)
    obtain ⟨hv, hs⟩ := hk.1 (by omega)
    rw [show min t.val 8 = 8 by omega] at hv hs
    by_cases h16 : t.val < 16
    · have hc : isContract (grid0.coords t) := hC.2 ⟨by omega, h16⟩
      have hw : ¬isWrite (grid0.coords t) := fun h => by have := hW.1 h; omega
      have e : pt (8 + (t.val - 8)) = t := ept _ (by omega)
      by_cases he : t.val = 8
      · refine ⟨o, v, s, _, ⟨fun _ => ?_, fun _ => ?_⟩, fun _ => rfl, fun h => by omega, fun E K =>
          run_expert0 c (grid0.coords t) _ _ _ _ _ _ _ _ _ _ _ _ _ _ _ _ _ _ _ _ _ _ _ hs8 hc (hE.2 he) hw o v s tt E K⟩
        · rw [show min (t.val + 1) 8 = 8 by omega]; exact ⟨hv, hs⟩
        · rw [show min (t.val + 1) 16 - 8 = 0 + 1 by omega, tAcc, show (8 + 0) = 8 from rfl, ept 8 he.symm, dif_pos hc, tAcc,
            ept 8 he.symm, hv, hs]
      · refine ⟨o, v, s, _, ⟨fun _ => ?_, fun _ => ?_⟩, fun _ => rfl, fun h => by omega, fun E K =>
          run_contract c (grid0.coords t) _ _ _ _ _ _ _ _ _ _ _ _ _ _ _ _ _ _ _ _ _ _ _ hs8 hc (fun h => he (hE.1 h)) hw o v s tt E K⟩
        · rw [show min (t.val + 1) 8 = 8 by omega]; exact ⟨hv, hs⟩
        · have ht := hk.2 (by omega)
          rw [show min t.val 16 - 8 = t.val - 8 by omega] at ht
          rw [show min (t.val + 1) 16 - 8 = (t.val - 8) + 1 by omega, tAcc, e, dif_pos hc, ht, hv]
    · have hc : ¬isContract (grid0.coords t) := fun h => by have := hC.1 h; omega
      have ht := hk.2 (by omega)
      rw [show min t.val 16 - 8 = 8 by omega] at ht
      refine ⟨_, v, s, tt, ⟨fun _ => ?_, fun _ => ?_⟩, fun h => by omega, fun _ => ?_, fun E K =>
        run_write c (grid0.coords t) _ _ _ _ _ _ _ _ _ _ _ _ _ _ _ _ _ _ _ _ _ _ _ hs8 hc (hW.2 (by omega)) o v s tt E K⟩
      · rw [show min (t.val + 1) 8 = 8 by omega]; exact ⟨hv, hs⟩
      · rw [show min (t.val + 1) 16 - 8 = 8 by omega]; exact ht
      · rw [ht]

/-- The result's window is idle before point 16, where nothing is written back, and live from there on. -/
theorem idle5 : ∀ t : Fin grid0.N, t.val < 16 → cfg0.idle 5 (grid0.coords t) = true ∧ (cfg0.win 5).flush t = false := by
  decide +kernel
theorem live5 : ∀ t : Fin grid0.N, 16 ≤ t.val → cfg0.idle 5 (grid0.coords t) = false := by decide +kernel

/-- What the body is called with at point `t`, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A window that is never idle leaves what the proof data says. -/
theorem leaves_live (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 1000000 in
theorem sound_body (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c)]
  rw [show (dats m 0 c).owesAt () t.succ = (dats m 0 c).owesAt () t.castSucc from rfl, Phi_castSucc, Phi_succ,
    leaves_live m c 0 t rfl, leaves_live m c 1 t rfl, leaves_live m c 2 t rfl, leaves_live m c 3 t rfl, leaves_live m c 4 t rfl,
    after0, after1, after2, after3, after4]
  unfold PhiS
  iintro ⟨⟨⟨%v, %s, %tt, %hk, S0, S1, S2⟩, Hg⟩, Ho, ⟨%d0, H0⟩, ⟨%d1, H1⟩, ⟨%d2, H2⟩, ⟨%d3, H3⟩, ⟨%d4, H4⟩, ⟨%d5, H5⟩⟩
  obtain ⟨o', v', s', t', hk', hlt, hge, hrun⟩ := step m c t ((dats m 0 c).before 5 t d5) v s tt hk
  iapply (hrun Set.univ _)
  unfold held
  iframe
  iintro ⟨H0, H1, H2, H3, H4, H5, S0, S1, S2⟩
  iframe
  isplitl [S0 S1 S2]
  · iexists v', s', t'
    iframe
    ipureintro; exact hk'
  by_cases h : t.val < 16
  · rw [Dat.leavesExact_idle (dats m 0 c) 5 t (idle5 t h).1 (idle5 t h).2, hlt h]
    iexists _; iexact H5
  · rw [leaves_live m c 5 t (live5 t (by omega)), after5, hge (by omega)]
    iexact H5

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = PhiS m c 0 from rfl, PhiA_eq]
  unfold PhiS
  iintro ⟨⟨⟨%v, S0⟩, ⟨%s, S1⟩, ⟨%t, S2⟩⟩, Hg⟩
  iframe
  iexists v, s, t
  iframe
  ipureintro; exact ⟨fun h => by omega, fun h => by omega⟩

theorem hout : (dats m 0 c).Φ (Fin.last cfg0.N) ⊢ Pipeline.ΦA spec0 c := by
  rw [show (dats m 0 c).Φ (Fin.last cfg0.N) = PhiS m c cfg0.N from rfl, PhiA_eq]
  unfold PhiS
  iintro ⟨⟨%v, %s, %t, %hk, S0, S1, S2⟩, Hg⟩
  iframe
  isplitl [S0]; · iexists _; iexact S0
  isplitl [S1]; · iexists _; iexact S1
  iexists _; iexact S2

/-! ## The run and the frame -/

set_option backward.isDefEq.respectTransparency.types false in
/-- The launch ends with every array at what the proof data says and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- The frame claim: the arguments unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

end Cert.KernelIdeal.Hand

end
-- ==== Proof.Math.lean ====
/- The arithmetic of the claim over the extended reals: softmax weights are nonnegative reals when the largest logit is
   finite, and a weighted sum of expert outputs can be taken tokens first. Hand-written. -/
module

public import Idealize.ShloMosaic.PureOps.Ideal

@[expose] public section

noncomputable section

namespace Cert.Mixture

open Idealize.ShloMosaic

/-- The largest of eight logits. -/
def top (l : Fin 8 → EReal) : EReal := Finset.univ.fold max ⊥ l

/-- The softmax weight of logit `e` among eight. -/
def soft (l : Fin 8 → EReal) (e : Fin 8) : EReal :=
  Ideal.div (Ideal.exp (l e - top l)) (∑ k, Ideal.exp (l k - top l))

/-- The largest of eight numbers is one of them. -/
theorem top_mem (l : Fin 8 → EReal) : ∃ e, top l = l e := by
  have h : top l = Finset.univ.sup l := rfl
  obtain ⟨e, -, he⟩ := Finset.exists_mem_eq_sup Finset.univ Finset.univ_nonempty l
  exact ⟨e, h.trans he⟩

theorem logit_le_top (l : Fin 8 → EReal) (e : Fin 8) : l e ≤ top l :=
  Finset.le_sup (f := l) (Finset.mem_univ e)

/-- Some logit is above minus infinity and none is plus infinity. -/
def Proper (l : Fin 8 → EReal) : Prop := (∀ e, l e ≠ ⊤) ∧ ∃ e, l e ≠ ⊥

/-- The largest of proper logits is a real number. -/
theorem top_coe (l : Fin 8 → EReal) (hl : Proper l) : ∃ t : ℝ, top l = t := by
  obtain ⟨e, he⟩ := top_mem l
  obtain ⟨k, hk⟩ := hl.2
  exact ⟨(top l).toReal, (EReal.coe_toReal (he ▸ hl.1 e) fun h => hk (le_bot_iff.1 (h ▸ logit_le_top l k))).symm⟩

/-- Numbers whose largest is real are proper. -/
theorem proper_of_top (l : Fin 8 → EReal) (t : ℝ) (h : top l = t) : Proper l := by
  refine ⟨fun e he => ?_, ?_⟩
  · have := logit_le_top l e
    rw [he, h] at this
    exact EReal.coe_ne_top t (top_le_iff.1 this)
  · obtain ⟨e, he⟩ := top_mem l
    exact ⟨e, fun hb => EReal.coe_ne_bot t (h.symm.trans (he.trans hb))⟩

/-- Proper logits stay proper when a real number is added to each. -/
theorem proper_add (d : Fin 8 → ℝ) (l : Fin 8 → EReal) (hl : Proper l) : Proper fun e => (d e : EReal) + l e :=
  ⟨fun e => EReal.add_ne_top (EReal.coe_ne_top _) (hl.1 e), hl.2.imp fun e he => by
    simpa [EReal.add_eq_bot_iff] using he⟩

/-- The inclusion of the reals carries finite sums over. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a number below plus infinity is a nonnegative real, positive unless the number is minus
    infinity. -/
theorem exp_sub_coe (l : EReal) (t : ℝ) (hl : l ≠ ⊤) :
    ∃ q : ℝ, 0 ≤ q ∧ (l ≠ ⊥ → 0 < q) ∧ Ideal.exp (l - t) = q := by
  induction l using EReal.rec with
  | bot => exact ⟨0, le_rfl, fun h => absurd rfl h, rfl⟩
  | top => exact absurd rfl hl
  | coe r => exact ⟨Real.exp (r - t), (Real.exp_pos _).le, fun _ => Real.exp_pos _, by rw [← EReal.coe_sub]; rfl⟩

/-- Softmax weights of proper logits are nonnegative real numbers. -/
theorem soft_coe (l : Fin 8 → EReal) (hl : Proper l) (e : Fin 8) : ∃ p : ℝ, 0 ≤ p ∧ soft l e = p := by
  obtain ⟨t, ht⟩ := top_coe l hl
  choose q h0 hpos hq using fun k => exp_sub_coe (l k) t (hl.1 k)
  obtain ⟨j, hj⟩ := hl.2
  have hs : 0 < ∑ k, q k := Finset.sum_pos' (fun k _ => h0 k) ⟨j, Finset.mem_univ j, hpos j hj⟩
  refine ⟨q e * (∑ k, q k)⁻¹, mul_nonneg (h0 e) (inv_nonneg.2 hs.le), ?_⟩
  unfold soft
  simp only [ht, hq]
  rw [← coe_sum, Ideal.div, if_neg (by exact_mod_cast hs.ne'), EReal.coe_mul, EReal.coe_inv]

/-- The dot product of two real rows is a real number. -/
theorem dot_coe {n : ℕ} (a b : Fin n → EReal) (ha : ∀ i, ∃ r : ℝ, a i = r) (hb : ∀ i, ∃ r : ℝ, b i = r) :
    ∃ r : ℝ, ∑ i, a i * b i = r := by
  choose x hx using ha
  choose y hy using hb
  exact ⟨∑ i, x i * y i, by rw [coe_sum]; exact Finset.sum_congr rfl fun i _ => by rw [hx, hy, EReal.coe_mul]⟩

/-- A sum of nonnegative reals distributes over any extended real on its right. -/
theorem sum_mul_of_nonneg {ι : Type*} (s : Finset ι) (p : ι → ℝ) (hp : ∀ i, 0 ≤ p i) (z : EReal) :
    (∑ i ∈ s, (p i : EReal)) * z = ∑ i ∈ s, (p i : EReal) * z := by
  classical
  induction s using Finset.induction_on with
  | empty => simp
  | insert a s ha ih =>
    rw [Finset.sum_insert ha, Finset.sum_insert ha, ← ih, EReal.right_distrib_of_nonneg (EReal.coe_nonneg.2 (hp a))
      (Finset.sum_nonneg fun i _ => EReal.coe_nonneg.2 (hp i))]

/-- The weighted sum over tokens and experts of the expert outputs `x b · W e + bias e` is the weighted bias plus, for
    each expert, the weighted sum of the tokens against `W e`. The bias may be infinite. -/
theorem mix {B n : ℕ} (w : Fin B → Fin 8 → EReal) (x : Fin B → Fin n → EReal) (W : Fin 8 → Fin n → EReal)
    (bias : Fin 8 → EReal) (hw : ∀ b e, ∃ p : ℝ, 0 ≤ p ∧ w b e = p) (hx : ∀ b i, ∃ r : ℝ, x b i = r)
    (hW : ∀ e i, ∃ r : ℝ, W e i = r) :
    ∑ b, ∑ e, w b e * ((∑ i, x b i * W e i) + bias e)
      = (∑ e, (∑ b, w b e) * bias e) + ∑ e, ∑ i, (∑ b, w b e * x b i) * W e i := by
  choose p hp hwp using hw
  choose y hy using hx
  choose V hV using hW
  have split : ∀ b e, w b e * ((∑ i, x b i * W e i) + bias e)
      = (p b e : EReal) * bias e + ((∑ i, p b e * y b i * V e i : ℝ) : EReal) := fun b e => by
    have hd : (∑ i, x b i * W e i) = ((∑ i, y b i * V e i : ℝ) : EReal) := by
      rw [coe_sum]; exact Finset.sum_congr rfl fun i _ => by rw [hy, hV, EReal.coe_mul]
    rw [hwp, hd, EReal.left_distrib_of_nonneg_of_ne_top (EReal.coe_nonneg.2 (hp b e)) (EReal.coe_ne_top _),
      ← EReal.coe_mul, Finset.mul_sum, add_comm]
    simp only [mul_assoc]
  simp only [split, Finset.sum_add_distrib]
  congr 1
  · rw [Finset.sum_comm]
    refine Finset.sum_congr rfl fun e _ => ?_
    simp only [hwp]
    exact (sum_mul_of_nonneg _ _ (fun b => hp b e) _).symm
  · rw [Finset.sum_comm]
    refine Finset.sum_congr rfl fun e _ => ?_
    rw [← coe_sum, Finset.sum_comm, coe_sum]
    refine Finset.sum_congr rfl fun i _ => ?_
    rw [← Finset.sum_mul, EReal.coe_mul, coe_sum, hV]
    congr 1
    exact Finset.sum_congr rfl fun b _ => by rw [hwp, hy, EReal.coe_mul]

end Cert.Mixture
-- ==== Proof.Weights.lean ====
/- The softmax weights of the tokens as a function of the argument arrays, shared by the kernel and the reference.
   Hand-written. -/
module

public import proofs.«01_k».proof.Proof.Math
public import Idealize.ShloMosaic.Lib.Pointwise

@[expose] public section

noncomputable section

namespace Cert.Mixture

open Idealize.ShloMosaic Idealize.ShloMosaic.Tactic

/-- The maximum's starting value is minus infinity. -/
theorem neg_inf : Ideal.ofBits .f32 0xFF800000#32 = ⊥ := by simp [Ideal.ofBits, Ideal.ieee]

/-- Token `b`'s softmax weights, from the tokens, the gate's matrix and the gate's bias. -/
def weights (x : FVec Ideal ⟨2, ![4096, 1024]⟩ .f32) (gw : FVec Ideal ⟨2, ![8, 1024]⟩ .f32)
    (gb : FVec Ideal ⟨1, ![8]⟩ .f32) (b : Fin 4096) : Fin 8 → EReal :=
  soft fun k => (∑ i : Fin 1024, x (ix2 b i) * gw (ix2 k i)) + gb (ix1 k)

end Cert.Mixture
-- ==== Proof.KernelIdeal.Value.lean ====
/- What the fused kernel's scratch buffers and its result hold, as sums over the arguments. Hand-written. -/
module

public import proofs.«01_k».proof.Proof.Weights
public import proofs.«01_k».proof.Proof.KernelIdeal.Run
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Cert.Mixture
open Idealize.ShloMosaic Idealize.ShloMosaic.TcCoe Idealize.ShloMosaic.Tactic

/-- A token block's weights, at token `r` and expert `e`. -/
theorem pay1_apply (x : FVec Ideal S512x1024 .f32) (gw : FVec Ideal S8x1024 .f32) (gb : FVec Ideal S1x8 .f32)
    (r : Fin 512) (e : Fin 8) :
    k0_pay1 (F := Ideal) x gw gb (ix2 r e) = soft (fun k => (∑ i : Fin 1024, x (ix2 r i) * gw (ix2 k i)) + gb (ix2 0 k)) e := by
  pointwise [k0_pay1, soft, top]
  rw [neg_inf]

theorem pay4_apply (x : FVec Ideal S512x1024 .f32) (gw : FVec Ideal S8x1024 .f32) (gb : FVec Ideal S1x8 .f32)
    (v : FVec Ideal S8x1024 .f32) (e : Fin 8) (i : Fin 1024) :
    k0_pay4 x gw gb v (ix2 e i) = v (ix2 e i) + ∑ r : Fin 512, k0_pay1 x gw gb (ix2 r e) * x (ix2 r i) := by
  pointwise [k0_pay4]

theorem pay5_apply (x : FVec Ideal S512x1024 .f32) (gw : FVec Ideal S8x1024 .f32) (gb : FVec Ideal S1x8 .f32)
    (s : FVec Ideal S1x8 .f32) (e : Fin 8) :
    k0_pay5 x gw gb s (ix2 0 e) = s (ix2 0 e) + ∑ r : Fin 512, k0_pay1 x gw gb (ix2 r e) := by
  pointwise [k0_pay5]

theorem pay6_apply (s : FVec Ideal S1x8 .f32) (eb : FVec Ideal S8x1024 .f32) (o : Fin 1024) :
    k0_pay6 s eb (ix2 0 o) = ∑ e : Fin 8, s (ix2 0 e) * eb (ix2 e o) := by
  pointwise [k0_pay6]

theorem pay7_apply (t v : FVec Ideal S1x1024 .f32) (ew : FVec Ideal S1x1024x1024 .f32) (o : Fin 1024) :
    k0_pay7 t v ew (ix2 0 o) = t (ix2 0 o) + ∑ i : Fin 1024, v (ix2 0 i) * ew (ix3 0 o i) := by
  pointwise [k0_pay7]

theorem pay8_apply (t : FVec Ideal S1x1024 .f32) (r o : Fin 1024) : k0_pay8 t (ix2 r o) = t (ix2 0 o) := by
  pointwise [k0_pay8]

theorem pay2_apply (e : Fin 8) (i : Fin 1024) : k0_pay2 (F := Ideal) (ix2 e i) = 0 := by
  pointwise [k0_pay2]

theorem pay3_apply (e : Fin 8) : k0_pay3 (F := Ideal) (ix2 0 e) = 0 := by
  pointwise [k0_pay3]

variable (m : (ℓ : Loc nD τ sig) → Buf (Elt Ideal) ℓ) (c : Dev nD)

/-- Token number `n`, and expert number `n`. -/
def tok (n : ℕ) : Fin 4096 := ⟨n % 4096, Nat.mod_lt _ (by decide)⟩
def ex (n : ℕ) : Fin 8 := ⟨n % 8, Nat.mod_lt _ (by decide)⟩

/-- The blocks that the five inputs' windows take at a grid point. -/
theorem idx_tokens : ∀ t : Fin grid0.N, t.val < 8 → win0_0.index t = ![t.val, 0] := by decide +kernel
theorem idx_gate : ∀ t : Fin grid0.N, win0_1.index t = ![0, 0] := by decide +kernel
theorem idx_gateBias : ∀ t : Fin grid0.N, win0_2.index t = ![0, 0] := by decide +kernel
theorem idx_bias : ∀ t : Fin grid0.N, win0_3.index t = ![0, 0] := by decide +kernel
theorem idx_expert : ∀ t : Fin grid0.N, 8 ≤ t.val → t.val < 16 → win0_4.index t = ![t.val - 8, 0, 0] := by
  decide +kernel

theorem iblk_tokens (k : ℕ) (hk : k < 8) (r : Fin 512) (i : Fin 1024) :
    iblk m c 0 (pt k) (ix2 r i) = m ((c.tc : Thread nD τ).loc main_arg0) (ix2 (tok (512 * k + r.val)) i) := by
  have hp : (pt k).val = k := Nat.mod_eq_of_lt (by omega)
  have h := idx_tokens (pt k) (by omega)
  rw [hp] at h
  have ht : (tok (512 * k + r.val)).val = 512 * k + r.val := Nat.mod_eq_of_lt (by omega)
  blk_ext [iblk, V, h, ht]

theorem iblk_gate (k : ℕ) (e : Fin 8) (i : Fin 1024) :
    iblk m c 1 (pt k) (ix2 e i) = m ((c.tc : Thread nD τ).loc main_arg3) (ix2 e i) := by
  blk_ext [iblk, V, idx_gate (pt k)]

theorem iblk_gateBias (k : ℕ) (e : Fin 8) :
    iblk m c 2 (pt k) (ix2 0 e) = m ((c.tc : Thread nD τ).loc main_arg4) (ix1 e) := by
  blk_simp [iblk, idx_gateBias (pt k)]
  show V m c main_call0_v0 _ = _
  entry_read
  pointwise
  blk_ext [idx_gateBias (pt k)]

theorem iblk_bias (k : ℕ) (e : Fin 8) (o : Fin 1024) :
    iblk m c 3 (pt k) (ix2 e o) = m ((c.tc : Thread nD τ).loc main_arg2) (ix2 e o) := by
  blk_ext [iblk, V, idx_bias (pt k)]

theorem iblk_expert (k : ℕ) (hk : k < 8) (o i : Fin 1024) :
    iblk m c 4 (pt (8 + k)) (ix3 0 o i) = m ((c.tc : Thread nD τ).loc main_arg1) (ix3 (ex k) o i) := by
  have hp : (pt (8 + k)).val = 8 + k := Nat.mod_eq_of_lt (by omega)
  have h := idx_expert (pt (8 + k)) (by omega) (by omega)
  rw [hp, Nat.add_sub_cancel_left] at h
  have he : (ex k).val = k := Nat.mod_eq_of_lt hk
  blk_ext [iblk, V, h, he]

/-- The weights the launch's own arguments give. -/
def wt (b : Fin 4096) : Fin 8 → EReal :=
  weights (m ((c.tc : Thread nD τ).loc main_arg0)) (m ((c.tc : Thread nD τ).loc main_arg3))
    (m ((c.tc : Thread nD τ).loc main_arg4)) b

/-- A token block's weights are the weights of its tokens. -/
theorem pay1_iblk (k : ℕ) (hk : k < 8) (r : Fin 512) (e : Fin 8) :
    k0_pay1 (F := Ideal) (iblk m c 0 (pt k)) (iblk m c 1 (pt k)) (iblk m c 2 (pt k)) (ix2 r e)
      = wt m c (tok (512 * k + r.val)) e := by
  refine (pay1_apply _ _ _ r e).trans ?_
  unfold wt weights
  congr 1
  funext j
  refine congrArg₂ (· + ·) (Finset.sum_congr rfl fun i _ => ?_) (iblk_gateBias m c k j)
  exact congrArg₂ (· * ·) (iblk_tokens m c k hk r i) (iblk_gate m c k j i)

/-- A sum over the first `k + 1` blocks of 512 tokens, the last block apart. -/
theorem sum_blocks (f : ℕ → EReal) (k : ℕ) :
    ∑ n ∈ Finset.range (512 * (k + 1)), f n = ∑ n ∈ Finset.range (512 * k), f n + ∑ r : Fin 512, f (512 * k + r.val) := by
  rw [Nat.mul_succ, Finset.sum_range_add, Finset.sum_range fun n => f (512 * k + n)]

/-- After `k` token blocks, row `e` of the first scratch buffer sums their tokens, each times its weight for `e`. -/
theorem vAcc_apply (e : Fin 8) (i : Fin 1024) : ∀ k ≤ 8, vAcc m c k (ix2 e i)
    = ∑ n ∈ Finset.range (512 * k), wt m c (tok n) e * m ((c.tc : Thread nD τ).loc main_arg0) (ix2 (tok n) i)
  | 0, _ => pay2_apply e i
  | k + 1, hk => by
    rw [sum_blocks, ← vAcc_apply e i k (by omega)]
    refine (pay4_apply _ _ _ _ e i).trans (congrArg₂ (· + ·) rfl (Finset.sum_congr rfl fun r _ => ?_))
    exact congrArg₂ (· * ·) (pay1_iblk m c k (by omega) r e) (iblk_tokens m c k (by omega) r i)

/-- After `k` token blocks, entry `e` of the second scratch buffer sums their tokens' weights for `e`. -/
theorem sAcc_apply (e : Fin 8) : ∀ k ≤ 8, sAcc m c k (ix2 0 e)
    = ∑ n ∈ Finset.range (512 * k), wt m c (tok n) e
  | 0, _ => pay3_apply e
  | k + 1, hk => by
    rw [sum_blocks, ← sAcc_apply e k (by omega)]
    refine (pay5_apply _ _ _ _ e).trans (congrArg₂ (· + ·) rfl (Finset.sum_congr rfl fun r _ => ?_))
    exact pay1_iblk m c k (by omega) r e

theorem off_row : ∀ t : Fin grid0.N, 8 ≤ t.val → t.val < 16 → k0_off1 (grid0.coords t) = ![t.val - 8, 0] := by
  decide +kernel

/-- The row that contraction step `k` loads from the first scratch buffer is row `k`. -/
theorem row_apply (k : ℕ) (hk : k < 8) (h : isContract (grid0.coords (pt (8 + k)))) (v : FVec Ideal S8x1024 .f32)
    (i : Fin 1024) : row (F := Ideal) (grid0.coords (pt (8 + k))) v h (ix2 0 i) = v (ix2 (ex k) i) := by
  have hp : (pt (8 + k)).val = 8 + k := Nat.mod_eq_of_lt (by omega)
  have ho := off_row (pt (8 + k)) (by omega) (by omega)
  rw [hp, Nat.add_sub_cancel_left] at ho
  have he : (ex k).val = k := Nat.mod_eq_of_lt hk
  unfold row
  refine View.ld_unit_apply_of (Val := Elt Ideal) (e := .f32) v _ _ _ (ix2 0 i) (ix2 (ex k) i) fun a => ?_
  refine Eq.trans ?_ (congrArg (· + _) (congrFun ho a)).symm
  fin_cases a
  · exact he
  · exact (Nat.zero_add _).symm

/-- After `k` contraction steps: the weighted bias, plus the first `k` experts' shares. -/
theorem tAcc_apply (o : Fin 1024) : ∀ k ≤ 8, tAcc m c k (ix2 0 o)
    = (∑ e : Fin 8, sAcc m c 8 (ix2 0 e) * m ((c.tc : Thread nD τ).loc main_arg2) (ix2 e o))
      + ∑ n ∈ Finset.range k, ∑ i : Fin 1024,
          vAcc m c 8 (ix2 (ex n) i) * m ((c.tc : Thread nD τ).loc main_arg1) (ix3 (ex n) o i)
  | 0, _ => by
    rw [Finset.sum_range_zero, add_zero]
    refine (pay6_apply _ _ o).trans (Finset.sum_congr rfl fun e _ => ?_)
    exact congrArg₂ (· * ·) rfl (iblk_bias m c 8 e o)
  | k + 1, hk => by
    have hp : (pt (8 + k)).val = 8 + k := Nat.mod_eq_of_lt (by omega)
    have hc : isContract (grid0.coords (pt (8 + k))) := (isContract_iff _).2 (by omega)
    rw [Finset.sum_range_succ, ← add_assoc, ← tAcc_apply o k (by omega), tAcc, dif_pos hc]
    refine (pay7_apply _ _ _ o).trans (congrArg₂ (· + ·) rfl (Finset.sum_congr rfl fun i _ => ?_))
    exact congrArg₂ (· * ·) (row_apply k (by omega) hc _ i) (iblk_expert m c k (by omega) o i)

/-- The row that the last four grid points write. -/
theorem tAcc_eight (o : Fin 1024) : tAcc m c 8 (ix2 0 o)
    = (∑ e : Fin 8, (∑ b : Fin 4096, wt m c b e) * m ((c.tc : Thread nD τ).loc main_arg2) (ix2 e o))
      + ∑ e : Fin 8, ∑ i : Fin 1024,
          (∑ b : Fin 4096, wt m c b e * m ((c.tc : Thread nD τ).loc main_arg0) (ix2 b i))
            * m ((c.tc : Thread nD τ).loc main_arg1) (ix3 e o i) := by
  have htok : ∀ b : Fin 4096, tok b.val = b := fun b => Fin.ext (Nat.mod_eq_of_lt b.isLt)
  have hex : ∀ e : Fin 8, ex e.val = e := fun e => Fin.ext (Nat.mod_eq_of_lt e.isLt)
  rw [tAcc_apply m c o 8 le_rfl, Finset.sum_range]
  simp only [hex, sAcc_apply m c _ 8 le_rfl, vAcc_apply m c _ _ 8 le_rfl, Nat.reduceMul, Finset.sum_range, htok]

theorem idx_out : ∀ t : Fin grid0.N, win0_5.index t = ![t.val - 16, 0] := by decide +kernel

/-- The result: every row is the row of totals. -/
theorem out_eq : (dats m 0 c).arrAt 5 cfg0.N = fun j => tAcc m c 8 (ix2 0 (j 1)) := by
  refine (dats m 0 c).arrAt_eq_of_covers 5 _ (by decide +kernel) fun t hf y => ?_
  blk_simp
  rw [after5]
  obtain ⟨r, o, rfl⟩ : ∃ (r o : Fin 1024), y = ix2 r o := ⟨y 0, y 1, by idx_ext⟩
  refine (pay8_apply _ r o).trans ?_
  blk_ext [idx_out t]

end Cert.KernelIdeal.Hand
-- ==== Proof.Reference.lean ====
/- What the reference returns, as a sum over tokens and experts. Hand-written. -/
module

public import proofs.«01_k».proof.Proof.Weights
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Cert.Mixture
open Idealize.ShloMosaic Idealize.ShloMosaic.TcCoe Idealize.ShloMosaic.Tactic

variable (x : FVec Ideal S4096x1024 .f32) (ew : FVec Ideal S8x1024x1024 .f32) (eb : FVec Ideal S8x1024 .f32)
  (gw : FVec Ideal S8x1024 .f32) (gb : FVec Ideal S8 .f32)

/-- The reference's logits. -/
theorem logits_apply (b : Fin 4096) (e : Fin 8) :
    val_main_v4 (F := Ideal) x gw gb (ix2 b e) = (∑ i : Fin 1024, x (ix2 b i) * gw (ix2 e i)) + gb (ix1 e) := by
  pointwise [val_main_v4, val_main_v1, val_main_v0, val_main_v3, val_main_v2]

/-- The reference's weights. -/
theorem weights_apply (b : Fin 4096) (e : Fin 8) :
    val_main_v15 (F := Ideal) x gw gb (ix2 b e) = weights x gw gb b e := by
  have hl := logits_apply x gw gb
  revert hl
  pointwise [val_main_v15, val_main_v14, val_main_v13, val_main_v12, val_main_cst_1, val_main_v11, val_main_v10, val_main_v9,
    val_main_v8, val_main_v7, val_main_v6, val_main_cst_0, val_main_v5, val_main_cst, weights, soft, top]
  intro hl
  simp only [hl, neg_inf, bot_le, max_eq_right]

/-- The reference's result. -/
theorem out_apply (r : Fin 4096) (o : Fin 1024) :
    val_main_v24 (F := Ideal) x ew eb gw gb (ix2 r o)
      = ∑ b : Fin 4096, ∑ e : Fin 8, weights x gw gb b e
          * ((∑ i : Fin 1024, x (ix2 b i) * ew (ix3 e o i)) + eb (ix2 e o)) := by
  have hw := weights_apply x gw gb
  revert hw
  pointwise [val_main_v24, val_main_v23, val_main_v22, val_main_v21, val_main_cst_2, val_main_v20, val_main_v19, val_main_v18,
    val_main_v17, val_main_v16]
  intro hw
  simp only [hw]

end Cert.ReferenceIdeal.Hand
-- ==== Proof.Finite.lean ====
/- What the precondition says of the argument arrays. Hand-written. -/
module

public import proofs.«01_k».proof.Proof.Gen.Pre_finite_or_masked
public import proofs.«01_k».proof.Proof.Weights
public import Idealize.ShloMosaic.Lib.ReduceAll
public import Idealize.ShloMosaic.PureOps.Ideal.Laws

@[expose] public section

set_option maxRecDepth 16384

noncomputable section

namespace Cert.Pre_finite_or_masked.Hand

open Cert.Pre_finite_or_masked Cert.Pre_finite_or_masked.Gen
open Idealize.ShloMosaic Idealize.ShloMosaic.Tactic Cert.Mixture

theorem pos_inf : Ideal.ofBits .f32 0x7F800000#32 = ⊤ := by simp [Ideal.ofBits, Ideal.ieee]

/-- A number whose absolute value is below infinity is real. -/
theorem real_of_below (a : EReal) (h : FloatOps.cmpf (F := Ideal) (φ := .f32) .olt (FloatOps.hostAbsf (F := Ideal) (φ := .f32) a)
    (Ideal.ofBits .f32 0x7F800000#32) = 1#1) : ∃ r : ℝ, a = r := by
  rw [Ideal.cmpf_def, Ideal.hostAbsf_def, Ideal.absf_def, pos_inf] at h
  induction a using EReal.rec with
  | bot => simp [Ideal.cmp] at h
  | top => simp [Ideal.cmp] at h
  | coe r => exact ⟨r, rfl⟩

instance : Subsingleton S_.Idx := ⟨fun _ _ => funext fun a => a.elim0⟩

/-- The reduction by maximum over the eight biases is the largest of them. -/
theorem max_apply (gb : FVec Ideal S8 .f32) (j : S_.Idx) :
    Host.reduce FloatOps.maximumf gb (constant (F := Ideal) S_ .f32 0xFF800000#32) Facts.reducesTo_S8_S_d0 Facts.h_S_ j
      = top fun e => gb (ix1 e) := by
  pointwise [top]
  rw [neg_inf]

/-- The tokens, the expert matrices and the gate's matrix are real everywhere, and the gate's biases are proper. -/
theorem real_of_pre (x : FVec Ideal S4096x1024 .f32) (ew : FVec Ideal S8x1024x1024 .f32) (eb gw : FVec Ideal S8x1024 .f32)
    (gb : FVec Ideal S8 .f32) (h : fn (F := Ideal) x ew eb gw gb = fun _ => 1#1) :
    (∀ i, ∃ r : ℝ, x i = (r : EReal)) ∧ (∀ i, ∃ r : ℝ, ew i = (r : EReal)) ∧ (∀ i, ∃ r : ℝ, gw i = (r : EReal))
      ∧ Proper fun e => gb (ix1 e) := by
  obtain ⟨h1, hb⟩ := IntOp.andi_eq_one.1 (congrFun h finZeroElim)
  obtain ⟨h2, hg⟩ := IntOp.andi_eq_one.1 h1
  obtain ⟨hx, hw⟩ := IntOp.andi_eq_one.1 h2
  obtain ⟨t, ht⟩ := real_of_below _ hb
  exact ⟨fun i => real_of_below _ (Host.reduce_andi_all _ _ _ _ _ hx i),
    fun i => real_of_below _ (Host.reduce_andi_all _ _ _ _ _ hw i),
    fun i => real_of_below _ (Host.reduce_andi_all _ _ _ _ _ hg i),
    proper_of_top _ t ((max_apply gb finZeroElim).symm.trans ht)⟩

end Cert.Pre_finite_or_masked.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.Gen.Pre_finite_or_masked
public import proofs.«01_k».proof.Proof.KernelIdeal.Run
public import proofs.«01_k».proof.Proof.KernelIdeal.Value
public import proofs.«01_k».proof.Proof.Reference
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem kernelQuiescent : Cert.quiescent_Kernel (hKernel := Cert.Kernel.Gen.facts) :=
  fun m g _ => Cert.Kernel.Hand.frame (F := Bits) m g

theorem idealQuiescent : Cert.quiescent_KernelIdeal (hKernelIdeal := Cert.KernelIdeal.Gen.facts) :=
  fun m g _ => Cert.KernelIdeal.Hand.frame (F := Ideal) m g

theorem referenceQuiescent : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Where the precondition holds, the kernel's row of totals is the reference's, entry by entry. -/
theorem values (m : (ℓ : Loc Cert.KernelIdeal.nD Cert.KernelIdeal.τ Cert.KernelIdeal.sig) → Buf (Elt Ideal) ℓ)
    (h : Cert.Pre_KernelIdeal_finite_or_masked (hPre_finite_or_masked := Cert.Pre_finite_or_masked.Gen.facts) m) (c : Dev Cert.KernelIdeal.nD)
    (j : Cert.KernelIdeal.S4096x1024.Idx) :
    Cert.ReferenceIdeal.Read.val_main_v24 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) j
      = Cert.KernelIdeal.Hand.tAcc m c 8 (ix2 0 (j 1)) := by
  obtain ⟨hx, hw, hg, hb⟩ := Cert.Pre_finite_or_masked.Hand.real_of_pre _ _ _ _ _ (h c)
  obtain ⟨r, o, rfl⟩ : ∃ (r : Fin 4096) (o : Fin 1024), j = ix2 r o := ⟨j 0, j 1, eq_ix2 j⟩
  rw [Cert.ReferenceIdeal.Hand.out_apply]
  refine Eq.trans ?_ (Cert.KernelIdeal.Hand.tAcc_eight m c o).symm
  choose d hd using fun b k => Cert.Mixture.dot_coe _ _ (fun i => hx (ix2 b i)) (fun i => hg (ix2 k i))
  refine Cert.Mixture.mix _ _ _ _ (fun b e => Cert.Mixture.soft_coe _ ?_ e) (fun b i => hx _) (fun e i => hw _)
  simp only [hd]
  exact Cert.Mixture.proper_add (d b) _ hb

theorem equal : Cert.algebraic_KernelIdeal_ReferenceIdeal_pre_finite_or_masked (hKernelIdeal := Cert.KernelIdeal.Gen.facts)
    (hReferenceIdeal := Cert.ReferenceIdeal.Gen.facts) (hPre_finite_or_masked := Cert.Pre_finite_or_masked.Gen.facts) := by
  intro m g m' g' hpre hagree
  refine ⟨fun c j => Cert.KernelIdeal.Hand.tAcc m c 8 (ix2 0 (j 1)), ?_, ?_⟩
  · refine (θ_run Cert.KernelIdeal.defs _ _).mono (fun r h c => ⟨?_, h.2 c⟩)
      (θ_run_and (Cert.KernelIdeal.Hand.run_main m g) (Cert.KernelIdeal.Hand.unchanged m g))
    exact ((h.1.1 c).1 5).trans (Cert.KernelIdeal.Hand.out_eq m c)
  · refine (θ_run Cert.ReferenceIdeal.defs _ _).mono (fun r h c => ⟨?_, (h c).2⟩) (Cert.ReferenceIdeal.Value.run (F := Ideal) m' g')
    obtain ⟨h0, h1, h2, h3, h4⟩ := hagree c
    refine (h c).1.trans ?_
    rw [Cert.ReferenceIdeal.Read.val_main_v24_eq, h0, h1, h2, h3, h4]
    exact funext fun j => values m hpre c j

theorem claim : Cert.Claim := ⟨Cert.Kernel.Gen.facts, Cert.KernelIdeal.Gen.facts, Cert.ReferenceIdeal.Gen.facts,
  Cert.Pre_finite_or_masked.Gen.facts, kernelQuiescent, idealQuiescent, fun m g _ => idealQuiescent m g trivial, referenceQuiescent,
  fun m g _ => referenceQuiescent m g trivial, trivial, equal⟩

end Cert.Proof

end
